-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x253 : Shape := ⟨2, ![16384, 253]⟩
abbrev S253x10 : Shape := ⟨2, ![253, 10]⟩
abbrev S10 : Shape := ⟨1, ![10]⟩
abbrev S1x10 : Shape := ⟨2, ![1, 10]⟩
abbrev S16384x10 : Shape := ⟨2, ![16384, 10]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S16384x253, .f32⟩
  | .hbm, ⟨1, _⟩ => ⟨S253x10, .f32⟩
  | .hbm, ⟨2, _⟩ => ⟨S10, .f32⟩
  | .hbm, ⟨3, _⟩ => ⟨S1x10, .f32⟩
  | .hbm, ⟨4, _⟩ => ⟨S16384x10, .f32⟩
  | .local _ .vmem, ⟨0, _⟩ => ⟨S253x10, .f32⟩
  | .local _ .vmem, ⟨1, _⟩ => ⟨S1x10, .f32⟩
  | .local _ .vmem, ⟨2, _⟩ => ⟨S16384x10, .f32⟩
  | .local _ .vmem, ⟨3, _⟩ => ⟨S16384x253, .f32⟩
  | _, _ => ⟨S16384x253, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S253x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x253 : Shape := ⟨2, ![16384, 253]⟩
abbrev S253x10 : Shape := ⟨2, ![253, 10]⟩
abbrev S10 : Shape := ⟨1, ![10]⟩
abbrev S16384x10 : Shape := ⟨2, ![16384, 10]⟩
abbrev S1x10 : Shape := ⟨2, ![1, 10]⟩

abbrev nBuf : Space → Nat
  | .hbm => 7
  | .vmem => 0
  | .smem => 0
  | _ => 0

abbrev bufTy : (tb : Table) → Fin (tcTables nBuf tb) → BufTy
  | .hbm, ⟨0, _⟩ => ⟨S16384x253, .f32⟩
  | .hbm, ⟨1, _⟩ => ⟨S253x10, .f32⟩
  | .hbm, ⟨2, _⟩ => ⟨S10, .f32⟩
  | .hbm, ⟨3, _⟩ => ⟨S16384x10, .f32⟩
  | .hbm, ⟨4, _⟩ => ⟨S1x10, .f32⟩
  | .hbm, ⟨5, _⟩ => ⟨S16384x10, .f32⟩
  | .hbm, ⟨6, _⟩ => ⟨S16384x10, .f32⟩
  | _, _ => ⟨S16384x253, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Linear.Body.lean ====
/-
  What one run of the kernel's body leaves in its output buffer: the copied array times the weights, plus the bias
  row. The body first copies the whole input from HBM into a scratch buffer, waits for the copy, and only then loads
  the scratch; so the load reads the input as it was launched.
-/
module

public import proofs.«01_k».proof.Proof.Gen.KernelIdeal.Value
public import Idealize.ShloMosaic.Lib.Tactic

@[expose] public section

set_option maxRecDepth 16384

noncomputable section

namespace Cert.KernelIdeal.Linear

open Cert.KernelIdeal Cert.KernelIdeal.Gen Idealize.ShloMosaic Idealize.ShloMosaic.TcCoe Idealize.SL.Sem

variable {F : FTy → Type} [FloatOps F]

/-- The offsets of a load or store of a whole matrix are zero. -/
theorem offsets_zero : (![0, 0] : Fin 2 → Nat) = fun _ => 0 := by
  funext a; fin_cases a <;> rfl

/-- A whole scratch buffer into which one copy delivered `X` whole is loaded as `X`. -/
theorem scratch_read (v : View sig .tc .vmem S16384x253 .f32) (X : S16384x253.Idx → Elt F .f32)
    (inb : ∀ a, (![0, 0] : Fin 2 → Nat) a + S16384x253.size a ≤ S16384x253.size a) :
    v.readCov [(⟨Rect.whole S16384x253, X⟩ : View.Piece (Elt F) S16384x253 .f32)]
      (Rect.unit (s := S16384x253) ![0, 0] S16384x253.size inb).toLoadRect = X := by
  rw [View.readCov_eq_canon_ld _ _ _ fun y => ⟨_, List.mem_singleton_self _, by
    rw [Rect.set_whole]; exact Finset.mem_univ y⟩, View.ld_unit_zero (S := S16384x253) offsets_zero]
  exact View.canon_unit_zero (S := S16384x253) rfl _ X

/-- The body's output buffer ends holding the payload of its one store, taken at the input as it lies in HBM, the
    weights' block and the bias' block. -/
theorem out_eq (c : Dev nD) (a1 : Memref sig .tc .vmem S253x10 .f32) (h1 : a1.IsWhole)
    (a2 : Memref sig .tc .vmem S1x10 .f32) (h2 : a2.IsWhole) (a3 : Memref sig .tc .vmem S16384x10 .f32)
    (h3 : a3.IsWhole) (a4 : Memref sig .tc .vmem S16384x253 .f32) (h4 : a4.IsWhole)
    (w : Vec F S253x10 .f32) (b : Vec F S1x10 .f32) (x : HbBuf0 (F := F) c hbM0_0) :
    out0_A_2 c a1 h1 a2 h2 a3 h3 a4 h4 w b x = k0_pay1 (F := F) x w b := by
  unfold out0_A_2
  rw [View.read_writes_eq_canon _ _ _ (cover0_A_2 c a1 h1 a2 h2 a3 h3 a4 h4 w b x)]
  unfold kernelRun0_A
  dsimp only
  sl_unfold_words
  rw [View.canon_unit_zero offsets_zero]
  rw [scratch_read, View.readAt_eq_ld, View.readAt_eq_ld, h1.read_unread, h2.read_unread,
    View.ld_unit_zero (S := S253x10) offsets_zero, View.ld_unit_zero (S := S1x10) offsets_zero]
  rfl

end Cert.KernelIdeal.Linear

end
-- ==== Proof.Linear.Array.lean ====
/-
  What the kernel's result array holds at the end of a run, as one term of the three arguments: the launch has a
  single grid point whose blocks are the whole arrays, so the array is what the body left in its output buffer.
-/
module

public import proofs.«01_k».proof.Proof.Linear.Body
public import Idealize.ShloMosaic.Lib.StableHlo.Run

@[expose] public section

set_option maxRecDepth 16384

noncomputable section

namespace Cert.KernelIdeal.Linear

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The weights' block at the one grid point is block 0 along both axes. -/
theorem index0 (t : Fin cfg0.N) (a : Fin 2) : win0_0.index t a = 0 := by fin_cases a <;> rfl
/-- So is the bias row's block. -/
theorem index1 (t : Fin cfg0.N) (a : Fin 2) : win0_1.index t a = 0 := by fin_cases a <;> rfl
/-- So is the result's block. -/
theorem index2 (t : Fin cfg0.N) (a : Fin 2) : win0_2.index t a = 0 := by fin_cases a <;> rfl

/-- The bias as the launch finds it: the vector of ten laid out as one row. -/
theorem bias_row (c : Dev nD) :
    V m c main_call0_v0 = shapeCast S1x10 (m ((c : Thread nD τ).loc main_arg2)) shapeCasts_S10_S1x10 := by
  unfold V hostOps0
  after_results
  rfl

/-- The weights' block is the whole matrix of weights. -/
theorem weights_block (c : Dev nD) (t : Fin cfg0.N) :
    (iblk m c 0 t : Vec F S253x10 .f32) = m ((c : Thread nD τ).loc main_arg1) := by
  have hz : (fun a => win0_0.index t a * main_arg1.ty.shape.size a) = fun _ => 0 := by
    funext a; rw [index0]; exact Nat.zero_mul _
  exact (Memref.read_access_unit_zero (Elt F) main_arg1 hz (fun a => by rw [congrFun hz a]; simp)
    (V m c main_arg1)).trans (V_main_arg1 m c)

/-- The bias' block is the whole row. -/
theorem bias_block (c : Dev nD) (t : Fin cfg0.N) :
    (iblk m c 1 t : Vec F S1x10 .f32)
      = shapeCast S1x10 (m ((c : Thread nD τ).loc main_arg2)) shapeCasts_S10_S1x10 := by
  have hz : (fun a => win0_1.index t a * main_call0_v0.ty.shape.size a) = fun _ => 0 := by
    funext a; rw [index1]; exact Nat.zero_mul _
  exact (Memref.read_access_unit_zero (Elt F) main_call0_v0 hz (fun a => by rw [congrFun hz a]; simp)
    (V m c main_call0_v0)).trans (bias_row m c)

/-- The result as a term of the arguments: the body's payload at the input, the weights and the bias row. -/
def result (x : Vec F S16384x253 .f32) (w : Vec F S253x10 .f32) (b : Vec F S10 .f32) : Vec F S16384x10 .f32 :=
  k0_pay1 x w (shapeCast S1x10 b shapeCasts_S10_S1x10)

/-- What the body leaves at a grid point is the result. -/
theorem outs_eq (c : Dev nD) (t : Fin cfg0.N) :
    outsAt0 m c t = result (m ((c : Thread nD τ).loc main_arg0)) (m ((c : Thread nD τ).loc main_arg1))
      (m ((c : Thread nD τ).loc main_arg2)) := by
  unfold outsAt0 result
  rw [out_eq, weights_block, bias_block, V_main_arg0]

/-- The result array ends holding the result: its one block is the whole array. -/
theorem final_eq (c : Dev nD) :
    (dats m 0 c).arrAt 2 cfg0.N = result (m ((c : Thread nD τ).loc main_arg0)) (m ((c : Thread nD τ).loc main_arg1))
      (m ((c : Thread nD τ).loc main_arg2)) := by
  have hz (t : Fin cfg0.N) : (fun a => win0_2.index t a * main_v0.ty.shape.size a) = fun _ => 0 := by
    funext a; rw [index2]; exact Nat.zero_mul _
  have t₀ : Fin cfg0.N := ⟨0, by rw [show cfg0.N = 1 from N_0]; exact Nat.one_pos⟩
  refine (dats m 0 c).arrAt_eq_of_cover 2 (result (m ((c : Thread nD τ).loc main_arg0))
    (m ((c : Thread nD τ).loc main_arg1)) (m ((c : Thread nD τ).loc main_arg2))) ?_ ?_
  · intro t _
    rw [Value.flushed2, outs_eq]
    exact (Memref.read_access_unit_zero (Elt F) main_v0 (hz t) (fun a => by rw [congrFun (hz t) a]; simp) _).symm
  · intro i
    refine ⟨t₀, flush0_2 t₀, ?_⟩
    show i ∈ ((View.whole main_v0).slice (win0_2.rect t₀)).set
    rw [View.set_slice_whole, Rect.mem_set_unit]
    intro a
    refine ⟨(congrFun (hz t₀) a).trans_le (Nat.zero_le _), (i a).isLt.trans_eq ?_⟩
    exact ((congrArg (· + _) (congrFun (hz t₀) a)).trans (Nat.zero_add _)).symm

/-- The run, read: the result array at the result, the arguments unchanged. -/
theorem run : θ_run defs (onTc (τ := τ) (main (F := F))) ⟨m, fun _ => 0, ρ⟩ fun r => ∀ c : Dev nD,
      r.2.mem ((c : Thread nD τ).loc main_v0)
        = result (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_eq m c), (h c).2⟩) (Value.run_blocks m ρ)

end Cert.KernelIdeal.Linear

end
-- ==== Proof.Linear.Equation.lean ====
/-
  The equation over the extended reals: the kernel's result and the reference's, at the same arguments, are the same
  array. Entry (r, l) of either is the sum over k of x(r, k) · W(k, l), plus b(l).
-/
module

public import proofs.«01_k».proof.Proof.Linear.Array
public import proofs.«01_k».proof.Proof.Gen.ReferenceIdeal.Run
public import Idealize.ShloMosaic.Lib.Pointwise

@[expose] public section

set_option maxRecDepth 16384

noncomputable section

namespace Cert.KernelIdeal.Linear

open Idealize.ShloMosaic
open scoped BigOperators

/-- The linear layer, entry by entry: row `i 0` of `x` times column `i 1` of `w`, plus entry `i 1` of the bias. -/
def linear (x : FVec Ideal S16384x253 .f32) (w : FVec Ideal S253x10 .f32) (b : FVec Ideal S10 .f32) :
    FVec Ideal S16384x10 .f32 :=
  fun i => (∑ k : Fin 253, x (ix2 (i 0) k) * w (ix2 k (i 1)) : EReal) + b (ix1 (i 1))

/-- The kernel's result is the linear layer. -/
theorem result_eq_linear (x : FVec Ideal S16384x253 .f32) (w : FVec Ideal S253x10 .f32) (b : FVec Ideal S10 .f32) :
    result (F := Ideal) x w b = linear x w b := by
  funext i
  idx_vars i
  pointwise [result, Gen.k0_pay1, linear]

/-- The reference's result is the linear layer. -/
theorem reference_eq_linear (x : FVec Ideal S16384x253 .f32) (w : FVec Ideal S253x10 .f32) (b : FVec Ideal S10 .f32) :
    addf (F := Ideal) (Host.dotGeneral ReferenceIdeal.dot_S16384x253_S253x10_S16384x10_1_0_0_1_n_n none x w)
        (broadcastInDim ReferenceIdeal.S16384x10 ![0, 1] ReferenceIdeal.Facts₀.bcast_S1x10_S16384x10_0_1
          (broadcastInDim ReferenceIdeal.S1x10 ![1] ReferenceIdeal.Facts₀.bcast_S10_S1x10_1 b))
      = linear x w b := by
  funext i
  idx_vars i
  pointwise [linear]

end Cert.KernelIdeal.Linear

end
-- ==== Proof.lean ====
/-
  The five claims about the kernel that computes x @ W + b: the frames of the kernel, of its idealization and of the
  reference; that the idealization is the kernel read over the extended reals; and that kernel and reference compute
  the same array over the extended reals. Linear/Body.lean says what the body leaves, Linear/Array.lean what the
  result array holds, Linear/Equation.lean that both results are the linear layer.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Linear.Array
public import proofs.«01_k».proof.Proof.Linear.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's host program runs, leaves its arguments unchanged and every counter at zero. -/
theorem reference_frame : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run m ρ)

/-- The kernel and the reference, over the extended reals, compute the same array: the linear layer. -/
theorem same_function : Cert.algebraic_KernelIdeal_ReferenceIdeal
    (hKernelIdeal := Cert.KernelIdeal.Gen.facts) (hReferenceIdeal := Cert.ReferenceIdeal.Gen.facts) := by
  intro m ρ m' ρ' _ hag
  refine ⟨fun c => Cert.KernelIdeal.Linear.linear (m ((c.tc : Thread _ _).loc Cert.KernelIdeal.main_arg0))
      (m ((c.tc : Thread _ _).loc Cert.KernelIdeal.main_arg1)) (m ((c.tc : Thread _ _).loc Cert.KernelIdeal.main_arg2)),
    (θ_run _ _ _).mono (fun _ h c => ⟨(h c).1.trans ?_, (h c).2⟩) (Cert.KernelIdeal.Linear.run m ρ),
    (θ_run _ _ _).mono (fun _ h c => ⟨(h c).1.trans ?_, (h c).2⟩) (Cert.ReferenceIdeal.Value.run m' ρ')⟩
  · exact Cert.KernelIdeal.Linear.result_eq_linear _ _ _
  · rw [(hag c).1, (hag c).2.1, (hag c).2.2]
    exact Cert.KernelIdeal.Linear.reference_eq_linear _ _ _

/-- The five claims. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    reference_frame,
    trivial,
    same_function⟩

end Cert.Proof

end
